-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x8832 : Shape := ⟨3, ![48, 1, 8832]⟩
abbrev S2208x18304 : Shape := ⟨2, ![2208, 18304]⟩
abbrev S_ : Shape := ⟨0, ![]⟩
abbrev S1 : Shape := ⟨1, ![1]⟩
abbrev S48x8832 : Shape := ⟨2, ![48, 8832]⟩
abbrev S48x18304 : Shape := ⟨2, ![48, 18304]⟩
abbrev S2208x1408 : Shape := ⟨2, ![2208, 1408]⟩
abbrev S48x1408 : Shape := ⟨2, ![48, 1408]⟩
abbrev S552x1408 : Shape := ⟨2, ![552, 1408]⟩
abbrev S48x2208 : Shape := ⟨2, ![48, 2208]⟩
abbrev S48x1x18304 : Shape := ⟨3, ![48, 1, 18304]⟩

abbrev nBuf : Space → Nat
  | .hbm => 7
  | .vmem => 5
  | .smem => 1
  | _ => 0

abbrev bufTy : (tb : Table) → Fin (tcTables nBuf tb) → BufTy
  | .hbm, ⟨0, _⟩ => ⟨S48x1x8832, .bf16⟩
  | .hbm, ⟨1, _⟩ => ⟨S2208x18304, .i8⟩
  | .hbm, ⟨2, _⟩ => ⟨S_, .f32⟩
  | .hbm, ⟨3, _⟩ => ⟨S1, .f32⟩
  | .hbm, ⟨4, _⟩ => ⟨S48x8832, .bf16⟩
  | .hbm, ⟨5, _⟩ => ⟨S48x18304, .bf16⟩
  | .hbm, ⟨6, _⟩ => ⟨S48x1x18304, .bf16⟩
  | .local _ .vmem, ⟨0, _⟩ => ⟨S48x8832, .bf16⟩
  | .local _ .vmem, ⟨1, _⟩ => ⟨S2208x1408, .i8⟩
  | .local _ .vmem, ⟨2, _⟩ => ⟨S2208x1408, .i8⟩
  | .local _ .vmem, ⟨3, _⟩ => ⟨S48x1408, .bf16⟩
  | .local _ .vmem, ⟨4, _⟩ => ⟨S48x1408, .bf16⟩
  | .local _ .smem, ⟨0, _⟩ => ⟨S1, .f32⟩
  | _, _ => ⟨S48x1x8832, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x8832 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2208x1408 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S48x1x8832 : Shape := ⟨3, ![48, 1, 8832]⟩
abbrev S2208x18304 : Shape := ⟨2, ![2208, 18304]⟩
abbrev S_ : Shape := ⟨0, ![]⟩
abbrev S48x1x2208 : Shape := ⟨3, ![48, 1, 2208]⟩
abbrev S48x1x18304 : Shape := ⟨3, ![48, 1, 18304]⟩

abbrev nBuf : Space → Nat
  | .hbm => 61
  | .vmem => 0
  | .smem => 0
  | _ => 0

abbrev bufTy : (tb : Table) → Fin (tcTables nBuf tb) → BufTy
  | .hbm, ⟨0, _⟩ => ⟨S48x1x8832, .bf16⟩
  | .hbm, ⟨1, _⟩ => ⟨S2208x18304, .i8⟩
  | .hbm, ⟨2, _⟩ => ⟨S_, .f32⟩
  | .hbm, ⟨3, _⟩ => ⟨S2208x18304, .i32⟩
  | .hbm, ⟨4, _⟩ => ⟨S_, .i32⟩
  | .hbm, ⟨5, _⟩ => ⟨S2208x18304, .i32⟩
  | .hbm, ⟨6, _⟩ => ⟨S2208x18304, .i32⟩
  | .hbm, ⟨7, _⟩ => ⟨S_, .i32⟩
  | .hbm, ⟨8, _⟩ => ⟨S2208x18304, .i32⟩
  | .hbm, ⟨9, _⟩ => ⟨S2208x18304, .i32⟩
  | .hbm, ⟨10, _⟩ => ⟨S2208x18304, .bf16⟩
  | .hbm, ⟨11, _⟩ => ⟨S_, .bf16⟩
  | .hbm, ⟨12, _⟩ => ⟨S2208x18304, .bf16⟩
  | .hbm, ⟨13, _⟩ => ⟨S2208x18304, .bf16⟩
  | .hbm, ⟨14, _⟩ => ⟨S48x1x2208, .bf16⟩
  | .hbm, ⟨15, _⟩ => ⟨S48x1x18304, .f32⟩
  | .hbm, ⟨16, _⟩ => ⟨S2208x18304, .i32⟩
  | .hbm, ⟨17, _⟩ => ⟨S_, .i32⟩
  | .hbm, ⟨18, _⟩ => ⟨S2208x18304, .i32⟩
  | .hbm, ⟨19, _⟩ => ⟨S2208x18304, .i32⟩
  | .hbm, ⟨20, _⟩ => ⟨S_, .i32⟩
  | .hbm, ⟨21, _⟩ => ⟨S2208x18304, .i32⟩
  | .hbm, ⟨22, _⟩ => ⟨S2208x18304, .i32⟩
  | .hbm, ⟨23, _⟩ => ⟨S2208x18304, .bf16⟩
  | .hbm, ⟨24, _⟩ => ⟨S_, .bf16⟩
  | .hbm, ⟨25, _⟩ => ⟨S2208x18304, .bf16⟩
  | .hbm, ⟨26, _⟩ => ⟨S2208x18304, .bf16⟩
  | .hbm, ⟨27, _⟩ => ⟨S48x1x2208, .bf16⟩
  | .hbm, ⟨28, _⟩ => ⟨S48x1x18304, .f32⟩
  | .hbm, ⟨29, _⟩ => ⟨S2208x18304, .i32⟩
  | .hbm, ⟨30, _⟩ => ⟨S_, .i32⟩
  | .hbm, ⟨31, _⟩ => ⟨S2208x18304, .i32⟩
  | .hbm, ⟨32, _⟩ => ⟨S2208x18304, .i32⟩
  | .hbm, ⟨33, _⟩ => ⟨S_, .i32⟩
  | .hbm, ⟨34, _⟩ => ⟨S2208x18304, .i32⟩
  | .hbm, ⟨35, _⟩ => ⟨S2208x18304, .i32⟩
  | .hbm, ⟨36, _⟩ => ⟨S2208x18304, .bf16⟩
  | .hbm, ⟨37, _⟩ => ⟨S_, .bf16⟩
  | .hbm, ⟨38, _⟩ => ⟨S2208x18304, .bf16⟩
  | .hbm, ⟨39, _⟩ => ⟨S2208x18304, .bf16⟩
  | .hbm, ⟨40, _⟩ => ⟨S48x1x2208, .bf16⟩
  | .hbm, ⟨41, _⟩ => ⟨S48x1x18304, .f32⟩
  | .hbm, ⟨42, _⟩ => ⟨S2208x18304, .i32⟩
  | .hbm, ⟨43, _⟩ => ⟨S_, .i32⟩
  | .hbm, ⟨44, _⟩ => ⟨S2208x18304, .i32⟩
  | .hbm, ⟨45, _⟩ => ⟨S2208x18304, .i32⟩
  | .hbm, ⟨46, _⟩ => ⟨S_, .i32⟩
  | .hbm, ⟨47, _⟩ => ⟨S2208x18304, .i32⟩
  | .hbm, ⟨48, _⟩ => ⟨S2208x18304, .i32⟩
  | .hbm, ⟨49, _⟩ => ⟨S2208x18304, .bf16⟩
  | .hbm, ⟨50, _⟩ => ⟨S_, .bf16⟩
  | .hbm, ⟨51, _⟩ => ⟨S2208x18304, .bf16⟩
  | .hbm, ⟨52, _⟩ => ⟨S2208x18304, .bf16⟩
  | .hbm, ⟨53, _⟩ => ⟨S48x1x2208, .bf16⟩
  | .hbm, ⟨54, _⟩ => ⟨S48x1x18304, .f32⟩
  | .hbm, ⟨55, _⟩ => ⟨S48x1x18304, .f32⟩
  | .hbm, ⟨56, _⟩ => ⟨S48x1x18304, .f32⟩
  | .hbm, ⟨57, _⟩ => ⟨S48x1x18304, .f32⟩
  | .hbm, ⟨58, _⟩ => ⟨S48x1x18304, .f32⟩
  | .hbm, ⟨59, _⟩ => ⟨S48x1x18304, .f32⟩
  | .hbm, ⟨60, _⟩ => ⟨S48x1x18304, .bf16⟩
  | _, _ => ⟨S48x1x8832, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Codes.lean ====
/-
  The two-bit codes of a packed byte: what the kernel reads through 32-bit words is what shifting and masking each byte gives.
-/
module

public import Idealize.ShloMosaic.Lib.BitcastFour
public import Idealize.ShloMosaic.Lib.Pointwise

@[expose] public section

noncomputable section

namespace Cert.Proof.Codes

open Idealize.ShloMosaic

/-- Bit `q` of the mask `0x03030303` is set where `q` is 0 or 1 modulo 8. -/
theorem mask_getLsbD (q : Nat) (hq : q < 32) : (50529027#32 : BitVec 32).getLsbD q = (3#8 : BitVec 8).getLsbD (q % 8) := by
  revert q; decide

/-- Bit `i` of the byte mask 3 is set at 0 and 1 alone. -/
theorem three_getLsbD (i : Nat) (hi : i < 8) : (3#8 : BitVec 8).getLsbD i = decide (i < 2) := by
  revert i; decide

/-- A shift of a word by an amount below 32 is the plain shift. -/
theorem shrui_eq (u : ArithUnit) (x : BitVec 32) (s : Nat) (hs : s < 32) : IntOp.shrui u x (BitVec.ofNat 32 s) = x >>> s := by
  have e : (BitVec.ofNat 32 s).toNat = s := by simp; omega
  simp [IntOp.shrui, e, hs]

/-- Words of four bytes of a column, shifted right by `s ≤ 6`, masked to the low two bits of each byte and read as bytes
    again: each byte is its own source byte shifted by `s` and masked with 3 (what a neighbour shifts in is masked away). -/
theorem codes_through_words {R r n : Nat} (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (s : Nat) (hs : s ≤ 6) (k : Fin R) (l : Fin n) :
    bitcast ⟨2, ![R, n]⟩ 8
      (andi (shrui (bitcast ⟨2, ![r, n]⟩ 32 w h) (broadcast ⟨2, ![r, n]⟩ (BitVec.ofNat 32 s)))
        (broadcast ⟨2, ![r, n]⟩ 50529027#32)) h' (ValueIdx.ix2 k l)
      = (w (ValueIdx.ix2 k l) >>> s) &&& 3#8 := by
  apply BitVec.eq_of_getLsbD_eq
  intro i hi
  rw [bitcast_getLsbD _ h' _ i hi (by decide)]
  have hrow : (⟨2, ![R, n]⟩ : Shape).row (ValueIdx.ix2 k l) = k.val := rfl
  have hk : k.val / 4 < r := by omega
  have e : (h'.srcIdx (ValueIdx.ix2 k l) (((⟨2, ![R, n]⟩ : Shape).row (ValueIdx.ix2 k l) * 8 + i) / 32)
      (fun a ha => (Nat.div_lt_iff_lt_mul (by decide)).2 (h'.pos_lt _ i hi a ha)))
      = ValueIdx.ix2 (⟨k.val / 4, hk⟩ : Fin r) l := by
    funext c
    match c with
    | ⟨0, _⟩ =>
      refine Fin.ext ((h'.srcIdx_row _ _ _ ⟨0, Nat.zero_lt_two⟩ rfl).trans ?_)
      show (k.val * 8 + i) / 32 = k.val / 4
      omega
    | ⟨1, _⟩ => exact Fin.ext (h'.srcIdx_other _ _ _ ⟨1, Nat.one_lt_two⟩ (by show ¬ 1 + 2 = 2; omega))
  rw [e, hrow]
  show (IntOp.andi (IntOp.shrui .vector (bitcast ⟨2, ![r, n]⟩ 32 w h (ValueIdx.ix2 ⟨k.val / 4, hk⟩ l)) (BitVec.ofNat 32 s))
    50529027#32).getLsbD ((k.val * 8 + i) % 32) = _
  rw [shrui_eq _ _ _ (by omega)]
  have hq : (k.val * 8 + i) % 32 < 32 := Nat.mod_lt _ (by decide)
  simp only [IntOp.andi, BitVec.getLsbD_and, BitVec.getLsbD_ushiftRight]
  rw [mask_getLsbD _ hq, show (k.val * 8 + i) % 32 % 8 = i by omega, three_getLsbD i hi]
  by_cases h2 : i < 2
  · have hb := bitcast_8_32_getLsbD_ix2 w h ⟨k.val / 4, hk⟩ l (s + (k.val * 8 + i) % 32) (by omega) k
      (by show k.val = 4 * (k.val / 4) + _; omega)
    rw [hb, show (s + (k.val * 8 + i) % 32) % 8 = s + i by omega]
  · simp [h2]

/-- The same for the whole array at once. -/
theorem codes_through_words_fun {R r n : Nat} (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (s : Nat) (hs : s ≤ 6) :
    bitcast ⟨2, ![R, n]⟩ 8
      (andi (shrui (bitcast ⟨2, ![r, n]⟩ 32 w h) (broadcast ⟨2, ![r, n]⟩ (BitVec.ofNat 32 s)))
        (broadcast ⟨2, ![r, n]⟩ 50529027#32)) h'
      = fun i => (w i >>> s) &&& 3#8 := by
  funext i
  rw [ValueIdx.eq_ix2 i]
  exact codes_through_words w h h' hR s hs _ _

/-- A byte widened to a word, shifted by `s ≤ 6` and masked with 3 reads the same number as the byte shifted and masked. -/
theorem code_toNat (b : BitVec 8) (s : Nat) (hs : s ≤ 6) :
    (IntOp.andi (IntOp.shrui .host (b.setWidth 32) (BitVec.ofNat 32 s)) 3#32).toNat = ((b >>> s) &&& 3#8).toNat := by
  rw [shrui_eq _ _ _ (by omega)]
  simp only [IntOp.andi, BitVec.toNat_and, BitVec.toNat_ushiftRight, BitVec.toNat_setWidth]
  have := b.isLt
  rw [Nat.mod_eq_of_lt (by omega)]
  rfl

end Cert.Proof.Codes

end
-- ==== Proof.Layer.lean ====
/-
  What both programs compute, written out: a linear layer whose weights are two-bit codes, code `c` standing for the weight `c - 1`.
  Each byte packs four codes, which are the weights of four input features a quarter of the features apart.
-/
module

public import Idealize.ShloMosaic.Lib.Pointwise
public import Idealize.ShloMosaic.Lib.IdealHost

@[expose] public section

noncomputable section

namespace Cert.Proof

open Idealize.ShloMosaic

/-- The weight of the two-bit code at bit `s` of byte `b`: the code less one. -/
def trit (b : BitVec 8) (s : Nat) : EReal := ((((b >>> s) &&& 3#8).toNat : ℝ) : EReal) - 1

/-- The share of one quarter of the features: features `o + k` of row `b` against the codes at bit `s` of column `n`. -/
def quarter (x : (⟨3, ![48, 1, 8832]⟩ : Shape).Idx → EReal) (w : (⟨2, ![2208, 18304]⟩ : Shape).Idx → BitVec 8)
    (o s : Nat) (ho : o + 2208 ≤ 8832) (b : Fin 48) (n : Fin 18304) : EReal :=
  ∑ k : Fin 2208, x (ix3 b 0 ⟨o + k.val, by omega⟩) * trit (w (ix2 k n)) s

/-- The layer at row `b` and output feature `n`: the four quarters' sum times the scale. -/
def layer (x : (⟨3, ![48, 1, 8832]⟩ : Shape).Idx → EReal) (w : (⟨2, ![2208, 18304]⟩ : Shape).Idx → BitVec 8) (sc : EReal)
    (b : Fin 48) (n : Fin 18304) : EReal :=
  (quarter x w 0 0 (by decide) b n + quarter x w 2208 2 (by decide) b n + quarter x w 4416 4 (by decide) b n
    + quarter x w 6624 6 (by decide) b n) * sc

end Cert.Proof

end
-- ==== Proof.Block.lean ====
/-
  What the kernel's body stores at one grid point, element by element: the layer's formula on the point's blocks.
-/
module

public import proofs.«01_k».proof.Proof.Gen.KernelIdeal.Skeleton
public import proofs.«01_k».proof.Proof.Codes
public import proofs.«01_k».proof.Proof.Layer

@[expose] public section

set_option maxRecDepth 16384

noncomputable section

namespace Cert.KernelIdeal.Block

open Cert.KernelIdeal Cert.KernelIdeal.Gen Idealize.ShloMosaic Cert.Proof Cert.Proof.Codes

/-- The stored block at row `b`, column `l`: the four products of a slice of `x` with the weights of one code, added up and scaled. -/
theorem pay_apply (v0 : Vec Ideal S2208x1408 .i8) (v2 v13 v25 v37 : Vec Ideal S48x2208 .bf16) (v49 : Elt Ideal .f32)
    (b : Fin 48) (l : Fin 1408) :
    k0_pay1 (F := Ideal) (k0_pay2 v0) (k0_pay3 v0 v2 v13 v25) v37 v49 (ix2 b l)
      = ((∑ k : Fin 2208, v2 (ix2 b k) * trit (v0 (ix2 k l)) 0) + (∑ k : Fin 2208, v13 (ix2 b k) * trit (v0 (ix2 k l)) 2)
        + (∑ k : Fin 2208, v25 (ix2 b k) * trit (v0 (ix2 k l)) 4) + (∑ k : Fin 2208, v37 (ix2 b k) * trit (v0 (ix2 k l)) 6)) * v49 := by
  unfold k0_pay1 k0_pay3 k0_pay2
  dsimp only
  rw [codes_through_words_fun v0 _ _ (by decide) 0 (by decide), codes_through_words_fun v0 _ _ (by decide) 2 (by decide),
    codes_through_words_fun v0 _ _ (by decide) 4 (by decide), codes_through_words_fun v0 _ _ (by decide) 6 (by decide)]
  pointwise
  rfl

end Cert.KernelIdeal.Block

end
-- ==== Proof.Value.lean ====
/-
  The kernel's result, element by element: what each grid point's blocks read of the arguments, the array its write-backs
  leave, and the reshape after the last of them.
-/
module

public import proofs.«01_k».proof.Proof.Gen.KernelIdeal.Frame
public import proofs.«01_k».proof.Proof.Block
public import Idealize.ShloMosaic.Lib.Pipeline.ValueKit
public import Idealize.ShloMosaic.Lib.Claim

@[expose] public section

set_option maxRecDepth 16384

noncomputable section

namespace Cert.KernelIdeal.Elem

open Cert.KernelIdeal Cert.KernelIdeal.Gen Idealize.ShloMosaic Idealize.ShloMosaic.TcCoe Idealize.SL.Sem
open Idealize.ShloMosaic.Pipeline (Dat)
open Cert.Proof

variable (m : (ℓ : Loc nD τ sig) → Buf (Elt Ideal) ℓ) (ρ : Dev nD → PrngReg)

/-- Every window's block index at grid point `t`: the scale and the activations whole, the weights and the result by columns. -/
theorem idx : ∀ t : Fin cfg0.N, win0_0.index t = ![0] ∧ win0_1.index t = ![0, 0] ∧ win0_2.index t = ![0, t.val]
    ∧ win0_3.index t = ![0, t.val] :=
  (by decide +kernel : ∀ t : Fin grid0.N, _)

/-- Dropping a middle axis of length one moves no element. -/
theorem drop_unit {α : Type} {a n : Nat} (x : (⟨3, ![a, 1, n]⟩ : Shape).Idx → α)
    (h : (⟨3, ![a, 1, n]⟩ : Shape).ShapeCasts ⟨2, ![a, n]⟩) (b : Fin a) (k : Fin n) :
    shapeCast ⟨2, ![a, n]⟩ x h (ix2 b k) = x (ix3 b 0 k) :=
  shapeCast_apply x h _ _ (by
    rw [Shape.rowMajor_val_three, Shape.rowMajor_val_two]
    show (b.val * 1 + 0) * n + k.val = b.val * n + k.val
    rw [Nat.mul_one, Nat.add_zero])

/-- The scale's array at the first grid point: the scale argument with a unit axis put on. -/
theorem entry_scale (c : Dev nD) :
    V m c main_v0 = shapeCast S1 (m ((c : Thread nD τ).loc main_arg2)) shapeCasts_S_S1 := by
  entry_read
  rfl

/-- The activations' array at the first grid point: the argument with its unit axis dropped. -/
theorem entry_x (c : Dev nD) :
    V m c main_v1 = shapeCast S48x8832 (m ((c : Thread nD τ).loc main_arg0)) shapeCasts_S48x1x8832_S48x8832 := by
  entry_read
  rfl

/-- The scale's block at any point is the scale argument's one element. -/
theorem iblk0 (c : Dev nD) (t : Fin cfg0.N) (i : Fin 1) :
    iblk m c 0 t (ix1 i) = m ((c : Thread nD τ).loc main_arg2) ix0 := by
  have e : iblk m c 0 t (ix1 i) = V m c main_v0 (ix1 i) := by blk_ext! [iblk, idx t]
  rw [e, entry_scale]
  pointwise

/-- The activations' block at any point is the whole argument, its unit axis dropped. -/
theorem iblk1 (c : Dev nD) (t : Fin cfg0.N) (b : Fin 48) (k : Fin 8832) :
    iblk m c 1 t (ix2 b k) = m ((c : Thread nD τ).loc main_arg0) (ix3 b 0 k) := by
  have e : iblk m c 1 t (ix2 b k) = V m c main_v1 (ix2 b k) := by blk_ext! [iblk, idx t]
  rw [e, entry_x]
  exact drop_unit _ _ b k

/-- The weights' block at point `t` is the argument's columns from `1408 * t` on. -/
theorem iblk2 (c : Dev nD) (t : Fin cfg0.N) (k : Fin 2208) (l : Fin 1408) (n : Fin 18304) (hn : n.val = t.val * 1408 + l.val) :
    iblk m c 2 t (ix2 k l) = m ((c : Thread nD τ).loc main_arg1) (ix2 k n) := by
  blk_ext! [iblk, V, idx t]

/-- The result before its reshape: the layer of the arguments. -/
def flat (c : Dev nD) : Vec Ideal S48x18304 .bf16 := fun i =>
  layer (m ((c : Thread nD τ).loc main_arg0)) (m ((c : Thread nD τ).loc main_arg1)) (m ((c : Thread nD τ).loc main_arg2) ix0) (i 0) (i 1)

/-- What a grid point stores at row `b`, column `l` is the layer at the column's place in the array. -/
theorem point (c : Dev nD) (t : Fin cfg0.N) (b : Fin 48) (l : Fin 1408) (n : Fin 18304) (hn : n.val = t.val * 1408 + l.val) :
    outsAt0 m c t (ix2 b l) = flat m c (ix2 b n) := by
  unfold outsAt0
  frame_out
  rw [Block.pay_apply]
  show _ = layer _ _ _ b n
  have hx : ∀ (o : Nat) (ho : o + 2208 ≤ 8832) (h : _) (k : Fin 2208),
      View.ld (iblk m c 1 t) (Rect.unit ![0, o] ![48, 2208] h) (ix2 b k)
        = m ((c : Thread nD τ).loc main_arg0) (ix3 b 0 ⟨o + k.val, by omega⟩) := fun o ho h k => by
    rw [← iblk1 m c t]
    show iblk m c 1 t _ = _
    congr 1
    idx_ext
  have hs : ∀ h, View.ld (iblk m c 0 t) (Rect.unit ![0] ![1] inb_S1_S1_0) (Shape.Idx.first h)
      = m ((c : Thread nD τ).loc main_arg2) ix0 := fun h => by
    rw [← iblk0 m c t 0]
    show iblk m c 0 t _ = _
    congr 1
    idx_ext
  have q : ∀ (u : Vec Ideal S48x2208 .bf16) (o s : Nat) (ho : o + 2208 ≤ 8832),
      (∀ k : Fin 2208, u (ix2 b k) = m ((c : Thread nD τ).loc main_arg0) (ix3 b 0 ⟨o + k.val, by omega⟩)) →
      ∑ k : Fin 2208, u (ix2 b k) * trit (iblk m c 2 t (ix2 k l)) s
        = quarter (m ((c : Thread nD τ).loc main_arg0)) (m ((c : Thread nD τ).loc main_arg1)) o s ho b n := fun u o s ho hu =>
    Finset.sum_congr rfl fun k _ => by rw [hu k, iblk2 m c t k l n hn]
  rw [hs, q _ 0 0 (by decide) (hx 0 (by decide) _), q _ 2208 2 (by decide) (hx 2208 (by decide) _),
    q _ 4416 4 (by decide) (hx 4416 (by decide) _), q _ 6624 6 (by decide) (hx 6624 (by decide) _)]
  rfl

/-- The array the write-backs leave is `flat`: the thirteen blocks cover it and each holds the layer's columns. -/
theorem final (c : Dev nD) : (dats m 0 c).arrAt 3 cfg0.N = flat m c := by
  refine (dats m 0 c).arrAt_eq_of_covers 3 _ (by decide +kernel) fun t hf y => ?_
  blk_simp
  rw [after0_3]
  idx_vars y
  have ht : t.val < 13 := t.isLt
  rw [point m c t y0 y1 ⟨t.val * 1408 + y1.val, by omega⟩ rfl]
  congr 1
  blk_ext! [idx t]

/-- The result after the reshape that follows the grid: `flat` with the unit axis put back. -/
theorem tail (c : Dev nD) : Pipeline.afterTail₀ cfgs (dats m) 0 (V0 m) [hostOps1] c main_v3
    = shapeCast S48x1x18304 (flat m c) shapeCasts_S48x18304_S48x1x18304 := by
  unfold Pipeline.afterTail₀
  rw [← final]
  simp only [hostOps1, List.flatten_cons, List.flatten_nil, List.append_nil]
  after_results
  exact congrArg (fun v => shapeCast S48x1x18304 v shapeCasts_S48x18304_S48x1x18304)
    (Pipeline.withArrays_arr (cfgs 0).spec launch0.win.arr_inj c (V0 m c) (fun w => (dats m 0 c).arrAt w (cfgs 0).N) 3)

/-- The kernel's run: it ends with its result at the reshaped `flat` and its arguments unchanged. -/
theorem run : θ_run defs (onTc (τ := τ) (main (F := Ideal))) ⟨m, fun _ => 0, ρ⟩ fun r => ∀ c : Dev nD,
      r.2.mem ((c.tc : Thread nD τ).loc main_v3) = shapeCast S48x1x18304 (flat m c) shapeCasts_S48x18304_S48x1x18304
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

/-- The reshaped `flat` at row `b` and output feature `n` is the layer there. -/
theorem result_apply (c : Dev nD) (b : Fin 48) (n : Fin 18304) :
    shapeCast S48x1x18304 (flat m c) shapeCasts_S48x18304_S48x1x18304 (ix3 b 0 n)
      = layer (m ((c : Thread nD τ).loc main_arg0)) (m ((c : Thread nD τ).loc main_arg1)) (m ((c : Thread nD τ).loc main_arg2) ix0) b n := by
  pointwise
  rfl

end Cert.KernelIdeal.Elem

end
-- ==== Proof.Ref.lean ====
/-
  The reference's result, element by element: the layer's formula on the arguments.
-/
module

public import proofs.«01_k».proof.Proof.Gen.ReferenceIdeal.Run
public import proofs.«01_k».proof.Proof.Codes
public import proofs.«01_k».proof.Proof.Layer

@[expose] public section

set_option maxRecDepth 16384

noncomputable section

namespace Cert.ReferenceIdeal.Elem

open Cert.ReferenceIdeal Cert.ReferenceIdeal.Gen Idealize.ShloMosaic Idealize.ShloMosaic.TcCoe Idealize.SL.Sem
open Cert.Proof Cert.Proof.Codes

/-- The weights of the codes at bit `s`, as the reference computes them: each byte widened, shifted, masked, made a float, less 1. -/
def weights (w : Vec Ideal S2208x18304 .i8) (s : Nat) : FVec Ideal S2208x18304 .bf16 :=
  subf (F := Ideal) (uitofp .bf16 (andi (Host.shrui (extui 32 w natLt_8_32)
    (broadcastInDim S2208x18304 ![] bcast_S_S2208x18304 (constantI S_ 32 (BitVec.ofNat 32 s))))
    (broadcastInDim S2208x18304 ![] bcast_S_S2208x18304 (constantI S_ 32 3#32))))
    (broadcastInDim S2208x18304 ![] bcast_S_S2208x18304 (constant S_ .bf16 0x3F80#16))

/-- Those weights are the codes less one. -/
theorem weights_apply (w : Vec Ideal S2208x18304 .i8) (s : Nat) (hs : s ≤ 6) (k : Fin 2208) (n : Fin 18304) :
    weights w s (ix2 k n) = trit (w (ix2 k n)) s := by
  unfold weights trit
  rw [← code_toNat _ s hs]
  pointwise
  rfl

/-- One quarter's product: the features from `o` on against the weights at bit `s`. -/
theorem quarter_apply (x : FVec Ideal S48x1x8832 .bf16) (w : Vec Ideal S2208x18304 .i8) (o s : Nat) (hs : s ≤ 6)
    (ho : o + 2208 ≤ 8832) (h : S48x1x8832.Slices ![0, 0, o] S48x1x2208) (b : Fin 48) (n : Fin 18304) :
    (Host.dotGeneral (F := Ideal) dot_S48x1x2208_S2208x18304_S48x1x18304_2_0_01_1_n_n none
      (extractStridedSlice S48x1x2208 ![0, 0, o] x h) (weights w s) : FVec Ideal S48x1x18304 .f32) (ix3 b 0 n)
      = quarter x w o s ho b n := by
  unfold quarter
  pointwise
  exact Finset.sum_congr rfl fun k _ => by rw [weights_apply w s hs]

/-- The reference's result as one term of its arguments. -/
def result (x : FVec Ideal S48x1x8832 .bf16) (w : Vec Ideal S2208x18304 .i8) (sc : FVec Ideal S_ .f32) : FVec Ideal S48x1x18304 .bf16 :=
  truncf (F := Ideal) .bf16 (mulf (addf (addf (addf
    (Host.dotGeneral dot_S48x1x2208_S2208x18304_S48x1x18304_2_0_01_1_n_n none
      (extractStridedSlice S48x1x2208 ![0, 0, 0] x slices_S48x1x8832_S48x1x2208_0_0_0) (weights w 0))
    (Host.dotGeneral dot_S48x1x2208_S2208x18304_S48x1x18304_2_0_01_1_n_n none
      (extractStridedSlice S48x1x2208 ![0, 0, 2208] x slices_S48x1x8832_S48x1x2208_0_0_2208) (weights w 2)))
    (Host.dotGeneral dot_S48x1x2208_S2208x18304_S48x1x18304_2_0_01_1_n_n none
      (extractStridedSlice S48x1x2208 ![0, 0, 4416] x slices_S48x1x8832_S48x1x2208_0_0_4416) (weights w 4)))
    (Host.dotGeneral dot_S48x1x2208_S2208x18304_S48x1x18304_2_0_01_1_n_n none
      (extractStridedSlice S48x1x2208 ![0, 0, 6624] x slices_S48x1x8832_S48x1x2208_0_0_6624) (weights w 6)))
    (broadcastInDim S48x1x18304 ![] bcast_S_S48x1x18304 sc)) bitsLt_bf16_f32

/-- At row `b` and output feature `n` it is the layer. -/
theorem result_apply (x : FVec Ideal S48x1x8832 .bf16) (w : Vec Ideal S2208x18304 .i8) (sc : FVec Ideal S_ .f32)
    (b : Fin 48) (n : Fin 18304) : result x w sc (ix3 b 0 n) = layer x w (sc ix0) b n := by
  unfold layer result
  rw [← quarter_apply x w 0 0 (by decide) (by decide) slices_S48x1x8832_S48x1x2208_0_0_0,
    ← quarter_apply x w 2208 2 (by decide) (by decide) slices_S48x1x8832_S48x1x2208_0_0_2208,
    ← quarter_apply x w 4416 4 (by decide) (by decide) slices_S48x1x8832_S48x1x2208_0_0_4416,
    ← quarter_apply x w 6624 6 (by decide) (by decide) slices_S48x1x8832_S48x1x2208_0_0_6624]
  rw [show sc ix0 = broadcastInDim S48x1x18304 ![] bcast_S_S48x1x18304 sc (ix3 b 0 n) by pointwise]
  rfl

/-- The reference's run: it ends with its result at `result` of the arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Elem

end
-- ==== Proof.lean ====
/-
  The certificate of the ternary linear layer: the kernel, its idealization and the reference each run to the end and leave their
  arguments and every semaphore as they were; and over the extended reals the kernel's result is the reference's.

  - Proof/Codes.lean: a two-bit code read through 32-bit words is the code of the byte itself.
  - Proof/Layer.lean: the layer as a formula at a row and an output feature.
  - Proof/Block.lean: what the kernel's body stores at one grid point is that formula on the point's blocks.
  - Proof/Value.lean: the kernel's result at the end of its run is the formula on its arguments.
  - Proof/Ref.lean: so is the reference's.
-/
module

public import proofs.«01_k».proof.Defs
public import proofs.«01_k».proof.Proof.Value
public import proofs.«01_k».proof.Proof.Ref
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The reference runs to the end with its arguments unchanged; it has no semaphore, so every counter is still zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Elem.run m ρ)

/-- The kernel's result and the reference's, from equal arguments, are equal: at every index each is the layer. -/
theorem algebraic : Cert.algebraic_KernelIdeal_ReferenceIdeal := by
  pair_intro
  · run_from Cert.KernelIdeal.Elem.run m g
  · run_from Cert.ReferenceIdeal.Elem.run m' g'
    funext i
    idx_vars i
    obtain rfl : i1 = 0 := Subsingleton.elim _ _
    exact (Cert.ReferenceIdeal.Elem.result_apply _ _ _ i0 i2).trans (Cert.KernelIdeal.Elem.result_apply m c i0 i2).symm

/-- All the claims of this certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ri, trivial, algebraic⟩

end Cert.Proof

end
